-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def preserves_Reference_ReferenceIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Reference (hReference := hReference)
    ∧ preserves_Kernel_KernelIdeal
    ∧ preserves_Reference_ReferenceIdeal
    ∧ algebraic_KernelIdeal_ReferenceIdeal_pre_tame (hKernelIdeal := hKernelIdeal) (hReferenceIdeal := hReferenceIdeal) (hPre_tame := hPre_tame)
-- ==== Pre_tame.lean ====
abbrev S2x1024x128 : Shape := ⟨3, ![2, 1024, 128]⟩
abbrev S2x1024x3 : Shape := ⟨3, ![2, 1024, 3]⟩
abbrev S2x1024x1024 : Shape := ⟨3, ![2, 1024, 1024]⟩
abbrev S128x64 : Shape := ⟨2, ![128, 64]⟩
abbrev S128x1 : Shape := ⟨2, ![128, 1]⟩
abbrev S64x3 : Shape := ⟨2, ![64, 3]⟩
abbrev S64 : Shape := ⟨1, ![64]⟩
abbrev S_ : Shape := ⟨0, ![]⟩
abbrev S2x1024 : Shape := ⟨2, ![2, 1024]⟩

class Facts : Prop where
  bcast_S_S2x1024x128 : S_.BroadcastsInDim S2x1024x128 (![] : Fin 0 → Fin S2x1024x128.rank)
  bcast_S_S128x64 : S_.BroadcastsInDim S128x64 (![] : Fin 0 → Fin S128x64.rank)
  bcast_S_S128x1 : S_.BroadcastsInDim S128x1 (![] : Fin 0 → Fin S128x1.rank)
  bcast_S_S2x1024x1024 : S_.BroadcastsInDim S2x1024x1024 (![] : Fin 0 → Fin S2x1024x1024.rank)
  reducesTo_S2x1024x1024_S2x1024_d2 : S2x1024x1024.ReducesTo [2] S2x1024
  h_S_ : 0 < S_.numel
  bcast_S_S2x1024 : S_.BroadcastsInDim S2x1024 (![] : Fin 0 → Fin S2x1024.rank)

variable [Facts]

def fn {F : FTy → Type} [FloatOps F] (main_arg0 : FVec F S2x1024x128 .f32) (main_arg1 : FVec F S2x1024x3 .f32) (main_arg2 : FVec F S2x1024x1024 .f32) (main_arg3 : FVec F S128x64 .f32) (main_arg4 : FVec F S128x1 .f32) (main_arg5 : FVec F S64x3 .f32) (main_arg6 : FVec F S64 .f32) : IVec S2x1024x128 1 × IVec S128x64 1 × IVec S128x1 1 × IVec S2x1024x1024 1 × IVec S2x1024 1 :=
  let main_v0 : FVec F S2x1024x128 .f32 := Host.absf main_arg0
  let main_cst : FVec F S_ .f32 := constant S_ .f32 0x7F800000#32
  let main_v1 : FVec F S2x1024x128 .f32 := broadcastInDim S2x1024x128 ![] bcast_S_S2x1024x128 main_cst
  let main_v2 : IVec S2x1024x128 1 := cmpf .olt main_v0 main_v1
  let main_v3 : FVec F S128x64 .f32 := Host.absf main_arg3
  let main_cst_0 : FVec F S_ .f32 := constant S_ .f32 0x7F800000#32
  let main_v4 : FVec F S128x64 .f32 := broadcastInDim S128x64 ![] bcast_S_S128x64 main_cst_0
  let main_v5 : IVec S128x64 1 := cmpf .olt main_v3 main_v4
  let main_v6 : FVec F S128x1 .f32 := Host.absf main_arg4
  let main_cst_1 : FVec F S_ .f32 := constant S_ .f32 0x7F800000#32
  let main_v7 : FVec F S128x1 .f32 := broadcastInDim S128x1 ![] bcast_S_S128x1 main_cst_1
  let main_v8 : IVec S128x1 1 := cmpf .olt main_v6 main_v7
  let main_cst_2 : FVec F S_ .f32 := constant S_ .f32 0x00000000#32
  let main_v9 : FVec F S2x1024x1024 .f32 := broadcastInDim S2x1024x1024 ![] bcast_S_S2x1024x1024 main_cst_2
  let main_v10 : IVec S2x1024x1024 1 := cmpf .oeq main_arg2 main_v9
  let main_cst_3 : FVec F S_ .f32 := constant S_ .f32 0x3F800000#32
  let main_v11 : FVec F S2x1024x1024 .f32 := broadcastInDim S2x1024x1024 ![] bcast_S_S2x1024x1024 main_cst_3
  let main_v12 : IVec S2x1024x1024 1 := cmpf .oeq main_arg2 main_v11
  let main_v13 : IVec S2x1024x1024 1 := ori main_v10 main_v12
  let main_cst_4 : FVec F S_ .f32 := constant S_ .f32 0xFF800000#32
  let main_v14 : FVec F S2x1024 .f32 := (fun x v => Host.reduce FloatOps.maximumf x v reducesTo_S2x1024x1024_S2x1024_d2 h_S_) main_arg2 main_cst_4
  let main_cst_5 : FVec F S_ .f32 := constant S_ .f32 0x3F800000#32
  let main_v15 : FVec F S2x1024 .f32 := broadcastInDim S2x1024 ![] bcast_S_S2x1024 main_cst_5
  let main_v16 : IVec S2x1024 1 := cmpf .oeq main_v14 main_v15
  (main_v2, main_v5, main_v8, main_v13, main_v16)
-- ==== Kernel.lean ====
abbrev S2x1024x128 : Shape := ⟨3, ![2, 1024, 128]⟩
abbrev S2x1024x3 : Shape := ⟨3, ![2, 1024, 3]⟩
abbrev S2x1024x1024 : Shape := ⟨3, ![2, 1024, 1024]⟩
abbrev S128x64 : Shape := ⟨2, ![128, 64]⟩
abbrev S128x1 : Shape := ⟨2, ![128, 1]⟩
abbrev S64x3 : Shape := ⟨2, ![64, 3]⟩
abbrev S64 : Shape := ⟨1, ![64]⟩
abbrev S64x128 : Shape := ⟨2, ![64, 128]⟩
abbrev S1x128 : Shape := ⟨2, ![1, 128]⟩
abbrev S3x64 : Shape := ⟨2, ![3, 64]⟩
abbrev S3x2x1024 : Shape := ⟨3, ![3, 2, 1024]⟩
abbrev S1x64 : Shape := ⟨2, ![1, 64]⟩
abbrev S2x64x1024 : Shape := ⟨3, ![2, 64, 1024]⟩
abbrev S2x1024x64 : Shape := ⟨3, ![2, 1024, 64]⟩
abbrev S1x1024x128 : Shape := ⟨3, ![1, 1024, 128]⟩
abbrev S1x1024x1024 : Shape := ⟨3, ![1, 1024, 1024]⟩
abbrev S1x64x1024 : Shape := ⟨3, ![1, 64, 1024]⟩
abbrev S64x1024 : Shape := ⟨2, ![64, 1024]⟩
abbrev S72x1024 : Shape := ⟨2, ![72, 1024]⟩
abbrev S1024x128 : Shape := ⟨2, ![1024, 128]⟩
abbrev S8x1024 : Shape := ⟨2, ![8, 1024]⟩
abbrev S1x1024 : Shape := ⟨2, ![1, 1024]⟩
abbrev S1024x1 : Shape := ⟨2, ![1024, 1]⟩
abbrev S1x1x1024 : Shape := ⟨3, ![1, 1, 1024]⟩
abbrev S1 : Shape := ⟨1, ![1]⟩
abbrev S1x1x1 : Shape := ⟨3, ![1, 1, 1]⟩
abbrev S1024x1024 : Shape := ⟨2, ![1024, 1024]⟩
abbrev S3x1x1024 : Shape := ⟨3, ![3, 1, 1024]⟩
abbrev S3x1024 : Shape := ⟨2, ![3, 1024]⟩
abbrev S64x1 : Shape := ⟨2, ![64, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x1024x128, .f32⟩
  | .hbm, ⟨1, _⟩ => ⟨S2x1024x3, .f32⟩
  | .hbm, ⟨2, _⟩ => ⟨S2x1024x1024, .f32⟩
  | .hbm, ⟨3, _⟩ => ⟨S128x64, .f32⟩
  | .hbm, ⟨4, _⟩ => ⟨S128x1, .f32⟩
  | .hbm, ⟨5, _⟩ => ⟨S64x3, .f32⟩
  | .hbm, ⟨6, _⟩ => ⟨S64, .f32⟩
  | .hbm, ⟨7, _⟩ => ⟨S64x128, .f32⟩
  | .hbm, ⟨8, _⟩ => ⟨S1x128, .f32⟩
  | .hbm, ⟨9, _⟩ => ⟨S3x64, .f32⟩
  | .hbm, ⟨10, _⟩ => ⟨S3x2x1024, .f32⟩
  | .hbm, ⟨11, _⟩ => ⟨S1x64, .f32⟩
  | .hbm, ⟨12, _⟩ => ⟨S2x64x1024, .f32⟩
  | .hbm, ⟨13, _⟩ => ⟨S2x1024x64, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S3x2x1024, .f32⟩
  | .local _ .vmem, ⟨5, _⟩ => ⟨S64x128, .f32⟩
  | .local _ .vmem, ⟨6, _⟩ => ⟨S1x128, .f32⟩
  | .local _ .vmem, ⟨7, _⟩ => ⟨S3x64, .f32⟩
  | .local _ .vmem, ⟨8, _⟩ => ⟨S1x64, .f32⟩
  | .local _ .vmem, ⟨9, _⟩ => ⟨S1x64x1024, .f32⟩
  | .local _ .vmem, ⟨10, _⟩ => ⟨S1x64x1024, .f32⟩
  | .local _ .vmem, ⟨11, _⟩ => ⟨S64x1024, .f32⟩
  | .local _ .vmem, ⟨12, _⟩ => ⟨S72x1024, .bf16⟩
  | _, _ => ⟨S2x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 1], ![false, false]⟩

def k0_off1 (i : grid0.Coords) : Fin 2 → Nat :=
  let c0_5 : Index := 0#32
  let arg1 : BitVec 32 := BitVec.ofNat 32 (i 1).val
  let c1024_i32 : BitVec 32 := 1024#32
  let v11 : BitVec 32 := Scalar.muli arg1 c1024_i32
  let v12 : Index := Scalar.indexCast v11
  ![0, v12.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== Reference.lean ====
abbrev S2x1024x128 : Shape := ⟨3, ![2, 1024, 128]⟩
abbrev S2x1024x3 : Shape := ⟨3, ![2, 1024, 3]⟩
abbrev S2x1024x1024 : Shape := ⟨3, ![2, 1024, 1024]⟩
abbrev S128x64 : Shape := ⟨2, ![128, 64]⟩
abbrev S128x1 : Shape := ⟨2, ![128, 1]⟩
abbrev S64x3 : Shape := ⟨2, ![64, 3]⟩
abbrev S64 : Shape := ⟨1, ![64]⟩
abbrev S2x1024x64 : Shape := ⟨3, ![2, 1024, 64]⟩
abbrev S64x1 : Shape := ⟨2, ![64, 1]⟩
abbrev S2x1024 : Shape := ⟨2, ![2, 1024]⟩
abbrev S2x1024x1 : Shape := ⟨3, ![2, 1024, 1]⟩
abbrev S2x1x1024 : Shape := ⟨3, ![2, 1, 1024]⟩
abbrev S_ : Shape := ⟨0, ![]⟩
abbrev S3x64 : Shape := ⟨2, ![3, 64]⟩
abbrev S1x1x64 : Shape := ⟨3, ![1, 1, 64]⟩

abbrev nBuf : Space → Nat
  | .hbm => 75
  | .vmem => 0
  | .smem => 0
  | _ => 0

abbrev bufTy : (tb : Table) → Fin (tcTables nBuf tb) → BufTy
  | .hbm, ⟨0, _⟩ => ⟨S2x1024x128, .f32⟩
  | .hbm, ⟨1, _⟩ => ⟨S2x1024x3, .f32⟩
  | .hbm, ⟨2, _⟩ => ⟨S2x1024x1024, .f32⟩
  | .hbm, ⟨3, _⟩ => ⟨S128x64, .f32⟩
  | .hbm, ⟨4, _⟩ => ⟨S128x1, .f32⟩
  | .hbm, ⟨5, _⟩ => ⟨S64x3, .f32⟩
  | .hbm, ⟨6, _⟩ => ⟨S64, .f32⟩
  | .hbm, ⟨7, _⟩ => ⟨S2x1024x64, .f32⟩
  | .hbm, ⟨8, _⟩ => ⟨S64x1, .f32⟩
  | .hbm, ⟨9, _⟩ => ⟨S64, .f32⟩
  | .hbm, ⟨10, _⟩ => ⟨S2x1024, .f32⟩
  | .hbm, ⟨11, _⟩ => ⟨S64x1, .f32⟩
  | .hbm, ⟨12, _⟩ => ⟨S64, .f32⟩
  | .hbm, ⟨13, _⟩ => ⟨S2x1024, .f32⟩
  | .hbm, ⟨14, _⟩ => ⟨S2x1024x1, .f32⟩
  | .hbm, ⟨15, _⟩ => ⟨S2x1x1024, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S_, .f32⟩
  | .hbm, ⟨21, _⟩ => ⟨S2x1024x1024, .f32⟩
  | .hbm, ⟨22, _⟩ => ⟨S2x1024x1024, .i1⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S2x1024x1024, .f32⟩
  | .hbm, ⟨27, _⟩ => ⟨S_, .f32⟩
  | .hbm, ⟨28, _⟩ => ⟨S2x1024x1024, .f32⟩
  | .hbm, ⟨29, _⟩ => ⟨S_, .f32⟩
  | .hbm, ⟨30, _⟩ => ⟨S2x1024x1024, .f32⟩
  | .hbm, ⟨31, _⟩ => ⟨S2x1024x1024, .f32⟩
  | .hbm, ⟨32, _⟩ => ⟨S_, .f32⟩
  | .hbm, ⟨33, _⟩ => ⟨S2x1024x1024, .f32⟩
  | .hbm, ⟨34, _⟩ => ⟨S2x1024x1024, .i1⟩
  | .hbm, ⟨35, _⟩ => ⟨S2x1024x1024, .f32⟩
  | .hbm, ⟨36, _⟩ => ⟨S_, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024x1, .f32⟩
  | .hbm, ⟨42, _⟩ => ⟨S2x1024x1024, .f32⟩
  | .hbm, ⟨43, _⟩ => ⟨S2x1024x1024, .f32⟩
  | .hbm, ⟨44, _⟩ => ⟨S2x1024x1024, .f32⟩
  | .hbm, ⟨45, _⟩ => ⟨S_, .f32⟩
  | .hbm, ⟨46, _⟩ => ⟨S2x1024, .f32⟩
  | .hbm, ⟨47, _⟩ => ⟨S2x1024x1, .f32⟩
  | .hbm, ⟨48, _⟩ => ⟨S2x1024x1024, .f32⟩
  | .hbm, ⟨49, _⟩ => ⟨S2x1024x1024, .f32⟩
  | .hbm, ⟨50, _⟩ => ⟨S2x1024x64, .f32⟩
  | .hbm, ⟨51, _⟩ => ⟨S3x64, .f32⟩
  | .hbm, ⟨52, _⟩ => ⟨S2x1024x64, .f32⟩
  | .hbm, ⟨53, _⟩ => ⟨S1x1x64, .f32⟩
  | .hbm, ⟨54, _⟩ => ⟨S2x1024x64, .f32⟩
  | .hbm, ⟨55, _⟩ => ⟨S2x1024x64, .f32⟩
  | .hbm, ⟨56, _⟩ => ⟨S_, .f32⟩
  | .hbm, ⟨57, _⟩ => ⟨S2x1024x64, .f32⟩
  | .hbm, ⟨58, _⟩ => ⟨S2x1024x64, .f32⟩
  | .hbm, ⟨59, _⟩ => ⟨S2x1024x64, .f32⟩
  | .hbm, ⟨60, _⟩ => ⟨S_, .f32⟩
  | .hbm, ⟨61, _⟩ => ⟨S2x1024x64, .f32⟩
  | .hbm, ⟨62, _⟩ => ⟨S2x1024x64, .i1⟩
  | .hbm, ⟨63, _⟩ => ⟨S_, .f32⟩
  | .hbm, ⟨64, _⟩ => ⟨S2x1024x64, .f32⟩
  | .hbm, ⟨65, _⟩ => ⟨S2x1024x64, .i1⟩
  | .hbm, ⟨66, _⟩ => ⟨S_, .f32⟩
  | .hbm, ⟨67, _⟩ => ⟨S_, .f32⟩
  | .hbm, ⟨68, _⟩ => ⟨S2x1024x64, .f32⟩
  | .hbm, ⟨69, _⟩ => ⟨S2x1024x64, .f32⟩
  | .hbm, ⟨70, _⟩ => ⟨S2x1024x64, .f32⟩
  | .hbm, ⟨71, _⟩ => ⟨S_, .f32⟩
  | .hbm, ⟨72, _⟩ => ⟨S2x1024x64, .f32⟩
  | .hbm, ⟨73, _⟩ => ⟨S2x1024x64, .f32⟩
  | .hbm, ⟨74, _⟩ => ⟨S2x1024x64, .f32⟩
  | _, _ => ⟨S2x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call2_cst : Ref sig .tc := ⟨.hbm, 56, rfl⟩
abbrev main_call2_v0 : Ref sig .tc := ⟨.hbm, 57, rfl⟩
abbrev main_v36 : Ref sig .tc := ⟨.hbm, 58, rfl⟩
abbrev main_v37 : Ref sig .tc := ⟨.hbm, 59, rfl⟩
abbrev main_call3_cst : Ref sig .tc := ⟨.hbm, 60, rfl⟩
abbrev main_call3_v0 : Ref sig .tc := ⟨.hbm, 61, rfl⟩
abbrev main_call3_v1 : Ref sig .tc := ⟨.hbm, 62, rfl⟩
abbrev main_call3_cst_0 : Ref sig .tc := ⟨.hbm, 63, rfl⟩
abbrev main_call3_v2 : Ref sig .tc := ⟨.hbm, 64, rfl⟩
abbrev main_call3_v3 : Ref sig .tc := ⟨.hbm, 65, rfl⟩
abbrev main_call3_cst_1 : Ref sig .tc := ⟨.hbm, 66, rfl⟩
abbrev main_call3_call0_v0 : Ref sig .tc := ⟨.hbm, 67, rfl⟩
abbrev main_call3_call0_v1 : Ref sig .tc := ⟨.hbm, 68, rfl⟩
abbrev main_call3_v4 : Ref sig .tc := ⟨.hbm, 69, rfl⟩
abbrev main_call3_v5 : Ref sig .tc := ⟨.hbm, 70, rfl⟩
abbrev main_call3_cst_2 : Ref sig .tc := ⟨.hbm, 71, rfl⟩
abbrev main_call3_v6 : Ref sig .tc := ⟨.hbm, 72, rfl⟩
abbrev main_call3_v7 : Ref sig .tc := ⟨.hbm, 73, rfl⟩
abbrev main_v38 : Ref sig .tc := ⟨.hbm, 74, rfl⟩

abbrev nD : Nat := 1
abbrev τ : Topo := Topo.v7x

variable {F : FTy → Type} [FloatOps F]
-- ==== Proof.Analysis.lean ====
/-
  The real analysis behind the equation: what one row of attention is as a quotient of real sums, and that both
  programs' ways of computing it give that quotient.
-/
module

public import Idealize.ShloMosaic.Lib.Pointwise

@[expose] public section

noncomputable section

namespace Cert.Gat

open Idealize.ShloMosaic

/-- The slope of the leaky rectifier for negative arguments: the real number that the 32-bit literal 0.2 stands for. -/
def slope : ℝ := 13421773 / 67108864

theorem slope_pos : 0 < slope := by unfold slope; norm_num

theorem slope_lt_one : slope < 1 := by unfold slope; norm_num

/-- The leaky rectifier: `t` where `t` is nonnegative and `slope * t` elsewhere, written as a maximum. -/
def leaky (t : ℝ) : ℝ := max t (slope * t)

/-- For a nonnegative argument the leaky rectifier is the identity. -/
theorem leaky_of_nonneg {t : ℝ} (h : 0 ≤ t) : leaky t = t :=
  max_eq_left (by nlinarith [slope_lt_one])

/-- For a negative argument the leaky rectifier multiplies by the slope. -/
theorem leaky_of_neg {t : ℝ} (h : t < 0) : leaky t = slope * t :=
  max_eq_right (by nlinarith [slope_lt_one])

/-- One entry of the attention: the average of the values `w j` over the neighbours `j` (those with `nb j = 1`, the
    others having `nb j = 0`), weighted by the exponential of the leaky score `s + t j`. -/
def attend (s : ℝ) (t nb w : Fin 1024 → ℝ) : ℝ :=
  (∑ j, w j * (nb j * Real.exp (leaky (s + t j)))) / ∑ j, nb j * Real.exp (leaky (s + t j))

/-- A finite sum of reals, taken in the extended reals, is the real sum. -/
theorem coe_sum {ι : Type} [Fintype ι] (f : ι → ℝ) : ∑ j, (f j : EReal) = ((∑ j, f j : ℝ) : EReal) := by
  classical
  refine Finset.induction_on (Finset.univ : Finset ι) (by simp) fun a s ha ih => ?_
  rw [Finset.sum_insert ha, Finset.sum_insert ha, ih, EReal.coe_add]

/-- The maximum of two reals, taken in the extended reals, is the real maximum. -/
theorem coe_max (x y : ℝ) : max (x : EReal) (y : EReal) = ((max x y : ℝ) : EReal) :=
  (EReal.coe_strictMono.monotone.map_max).symm

/-- The product with a scaled factor, summed: a common real factor comes out of the sum. -/
theorem sum_scaled {n : ℕ} (u v : Fin n → ℝ) (c : ℝ) :
    ∑ f, ((u f : EReal) * (c : EReal)) * (v f : EReal) = (((∑ f, v f * u f) * c : ℝ) : EReal) := by
  rw [Finset.sum_mul, ← coe_sum]
  refine Finset.sum_congr rfl fun f _ => ?_
  rw [← EReal.coe_mul, ← EReal.coe_mul]
  congr 1; ring

/-- The running maximum of extended reals, all below `⊤` and one of them above `⊥`, is a real number. -/
theorem fold_max_real {ι : Type} [Fintype ι] (f : ι → EReal) (htop : ∀ j, f j < ⊤) (hbot : ∃ j, ⊥ < f j) :
    ∃ M : ℝ, Finset.univ.fold max (⊥ : EReal) f = (M : EReal) := by
  have h1 : Finset.univ.fold max (⊥ : EReal) f < ⊤ :=
    (Finset.fold_max_lt _).mpr ⟨bot_lt_top, fun j _ => htop j⟩
  have h2 : ⊥ < Finset.univ.fold max (⊥ : EReal) f := by
    obtain ⟨j, hj⟩ := hbot
    exact (Finset.lt_fold_max _).mpr (Or.inr ⟨j, Finset.mem_univ j, hj⟩)
  exact ⟨_, (EReal.coe_toReal h1.ne h2.ne').symm⟩

/-- The sum of the weights over a row with a neighbour is positive. -/
theorem weights_pos (s : ℝ) (t nb : Fin 1024 → ℝ) (h01 : ∀ j, nb j = 0 ∨ nb j = 1) (hnb : ∃ j, nb j = 1) :
    0 < ∑ j, nb j * Real.exp (leaky (s + t j)) := by
  obtain ⟨j, hj⟩ := hnb
  refine Finset.sum_pos' (fun i _ => ?_) ⟨j, Finset.mem_univ j, ?_⟩
  · rcases h01 i with h | h <;> rw [h] <;> simp [Real.exp_nonneg]
  · rw [hj, one_mul]; exact Real.exp_pos _

/-! ## The kernel's row -/

/-- A power of two is the exponential of its exponent times `log 2`. -/
theorem two_rpow (u : ℝ) : Real.rpow 2 u = Real.exp (u * Real.log 2) := by
  rw [Real.rpow_eq_pow, Real.rpow_def_of_pos (by norm_num), mul_comm]

/-- The kernel's weight of one pair of nodes, the larger of two products of powers of two, is the exponential of the leaky
    score times a factor that the row shares. -/
theorem pair_weight (s t m : ℝ) :
    max (Ideal.exp2 (((s * (Real.log 2)⁻¹ : ℝ) : EReal) - (m : EReal)) * Ideal.exp2 ((t * (Real.log 2)⁻¹ : ℝ) : EReal))
        (Ideal.exp2 ((slope : EReal) * ((s * (Real.log 2)⁻¹ : ℝ) : EReal) - (m : EReal))
          * Ideal.exp2 ((slope : EReal) * ((t * (Real.log 2)⁻¹ : ℝ) : EReal)))
      = ((Real.exp (leaky (s + t)) * Real.exp (-(m * Real.log 2)) : ℝ) : EReal) := by
  have hL : Real.log 2 ≠ 0 := (Real.log_pos (by norm_num)).ne'
  simp only [← EReal.coe_sub, ← EReal.coe_mul, Ideal.exp2_coe, coe_max, two_rpow, ← Real.exp_add]
  congr 1
  rw [← Real.exp_monotone.map_max]
  congr 1
  unfold leaky
  rw [← max_add_add_right]
  congr 1 <;> field_simp <;> ring

/-- The kernel's row: the weighted sum over the sum of the weights, both taken with a common positive factor `c` in the
    weights, is the attention entry. -/
theorem kernel_row (s c : ℝ) (t nb w : Fin 1024 → ℝ) (hc : 0 < c) (h01 : ∀ j, nb j = 0 ∨ nb j = 1)
    (hnb : ∃ j, nb j = 1) :
    Ideal.div (∑ j, (w j : EReal) * (((Real.exp (leaky (s + t j)) * c : ℝ) : EReal) * (nb j : EReal)))
        (∑ j, (1 : EReal) * (((Real.exp (leaky (s + t j)) * c : ℝ) : EReal) * (nb j : EReal)))
      = (attend s t nb w : EReal) := by
  have hpos := weights_pos s t nb h01 hnb
  simp only [one_mul, ← EReal.coe_mul, coe_sum]
  have e1 : ∑ j, w j * (Real.exp (leaky (s + t j)) * c * nb j)
      = (∑ j, w j * (nb j * Real.exp (leaky (s + t j)))) * c := by
    rw [Finset.sum_mul]; exact Finset.sum_congr rfl fun j _ => by ring
  have e2 : ∑ j, Real.exp (leaky (s + t j)) * c * nb j = (∑ j, nb j * Real.exp (leaky (s + t j))) * c := by
    rw [Finset.sum_mul]; exact Finset.sum_congr rfl fun j _ => by ring
  rw [e1, e2, Ideal.div_coe (mul_pos hpos hc).ne', ← EReal.coe_mul]
  unfold attend
  congr 1
  field_simp

/-! ## The reference's row -/

/-- The reference's masked score of one pair: the leaky score for a neighbour, `⊥` (the mask) otherwise. -/
def masked (s : ℝ) (t nb : Fin 1024 → ℝ) (j : Fin 1024) : EReal :=
  if nb j = 1 then ((leaky (s + t j) : ℝ) : EReal) else ⊥

/-- A masked score shifted by a real number and exponentiated: the shifted exponential for a neighbour, zero otherwise. -/
theorem exp_masked (s M : ℝ) (t nb : Fin 1024 → ℝ) (h01 : ∀ j, nb j = 0 ∨ nb j = 1) (j : Fin 1024) :
    Ideal.exp (masked s t nb j - (M : EReal))
      = ((nb j * Real.exp (leaky (s + t j)) * Real.exp (-M) : ℝ) : EReal) := by
  unfold masked
  rcases h01 j with h | h
  · rw [if_neg (by rw [h]; exact zero_ne_one), EReal.bot_sub, Ideal.exp_bot, h]; simp
  · rw [if_pos h, ← EReal.coe_sub, Ideal.exp_coe, h, one_mul, ← Real.exp_add, sub_eq_add_neg]

/-- The reference's row maximum of a row with a neighbour is a real number. -/
theorem masked_max (s : ℝ) (t nb : Fin 1024 → ℝ) (hnb : ∃ j, nb j = 1) :
    ∃ M : ℝ, Finset.univ.fold max (⊥ : EReal) (masked s t nb) = (M : EReal) := by
  obtain ⟨j, hj⟩ := hnb
  refine fold_max_real _ (fun i => ?_) ⟨j, ?_⟩
  · unfold masked; split
    · exact EReal.coe_lt_top _
    · exact bot_lt_top
  · unfold masked; rw [if_pos hj]; exact EReal.bot_lt_coe _

/-- The reference's row: the softmax of the masked scores, shifted by any real `M`, contracted with `w`, is the attention
    entry. -/
theorem reference_row (s M : ℝ) (t nb w : Fin 1024 → ℝ) (h01 : ∀ j, nb j = 0 ∨ nb j = 1) (hnb : ∃ j, nb j = 1) :
    ∑ j, Ideal.div (Ideal.exp (masked s t nb j - (M : EReal))) (∑ k, Ideal.exp (masked s t nb k - (M : EReal)))
        * (w j : EReal)
      = (attend s t nb w : EReal) := by
  have hpos := weights_pos s t nb h01 hnb
  simp only [exp_masked s M t nb h01, coe_sum]
  rw [← Finset.sum_mul]
  simp only [Ideal.div_coe (mul_pos hpos (Real.exp_pos (-M))).ne', ← EReal.coe_mul, coe_sum]
  unfold attend
  rw [Finset.sum_div]
  congr 1
  refine Finset.sum_congr rfl fun j _ => ?_
  have := (Real.exp_pos (-M)).ne'
  field_simp

end Cert.Gat

end
-- ==== Proof.Literals.lean ====
/-
  The values of the float literals that the two programs and the precondition write, as extended reals, and of the
  kernel's named constant.
-/
module

public import proofs.«01_k».proof.Proof.Analysis
public import proofs.«01_k».proof.KernelIdeal

@[expose] public section

noncomputable section

namespace Cert.Gat

open Idealize.ShloMosaic

/-- The 32-bit literal nearest to 0.2 is the slope. -/
theorem lit_slope : Ideal.ofBits .f32 0x3E4CCCCD#32 = (slope : EReal) := by
  unfold slope
  simp [Ideal.ofBits, Ideal.ieee, -EReal.coe_mul]
  norm_num

/-- The 32-bit pattern of minus infinity is `⊥`. -/
theorem lit_bot : Ideal.ofBits .f32 0xFF800000#32 = ⊥ := by
  simp [Ideal.ofBits, Ideal.ieee]

/-- The 32-bit pattern of infinity is `⊤`. -/
theorem lit_top : Ideal.ofBits .f32 0x7F800000#32 = ⊤ := by
  simp [Ideal.ofBits, Ideal.ieee]

/-- The 32-bit pattern of zero is zero. -/
theorem lit_zero : Ideal.ofBits .f32 0x00000000#32 = 0 := by
  simp [Ideal.ofBits, Ideal.ieee]

/-- The 32-bit pattern of one is one. -/
theorem lit_one : Ideal.ofBits .f32 0x3F800000#32 = 1 := by
  simp [Ideal.ofBits, Ideal.ieee, -EReal.coe_mul]
  norm_num

/-- The kernel's named constant `log2e` is the reciprocal of the natural logarithm of two. -/
theorem named_log2e :
    Named.named Cert.KernelIdeal.κ (F := Ideal) (φ := .f32) "log2e" 0x3FB8AA3B#32 = (((Real.log 2)⁻¹ : ℝ) : EReal) :=
  IdealRules.named_const.ideal_named_scalar _ _ _ _ rfl

end Cert.Gat

end
-- ==== Proof.Formula.lean ====
/-
  The kernel's row as a formula in extended reals, and its value for real operands: the attention entry.
-/
module

public import proofs.«01_k».proof.Proof.Analysis

@[expose] public section

noncomputable section

namespace Cert.Gat

open Idealize.ShloMosaic

/-- One half of the attention vector, scaled to powers of two, against the features of node `j`. -/
def score (a : Fin 64 → EReal) (h : Fin 64 → Fin 1024 → EReal) (j : Fin 1024) : EReal :=
  ∑ f, (a f * (((Real.log 2)⁻¹ : ℝ) : EReal)) * h f j

/-- The kernel's bound for row `i`: the leaky rectifier of the row's own score plus the largest score of any node. -/
def bound (a₁ a₂ : Fin 64 → EReal) (h : Fin 64 → Fin 1024 → EReal) (i : Fin 1024) : EReal :=
  max (score a₁ h i + Finset.univ.fold max ⊥ fun x : Fin 1 × Fin 1024 => score a₂ h x.2)
    ((slope : EReal) * (score a₁ h i + Finset.univ.fold max ⊥ fun x : Fin 1 × Fin 1024 => score a₂ h x.2))

/-- The kernel's weight of the pair `(i, j)` before the adjacency is multiplied in. -/
def weight (a₁ a₂ : Fin 64 → EReal) (h : Fin 64 → Fin 1024 → EReal) (i j : Fin 1024) : EReal :=
  max (Ideal.exp2 (score a₁ h i - bound a₁ a₂ h i) * Ideal.exp2 (score a₂ h j))
    (Ideal.exp2 ((slope : EReal) * score a₁ h i - bound a₁ a₂ h i) * Ideal.exp2 ((slope : EReal) * score a₂ h j))

/-- The kernel's attention entry for row `i` and feature `f`: the weighted sum of the features over the sum of the weights,
    `adj` being row `i` of the adjacency. -/
def kernelAttend (a₁ a₂ : Fin 64 → EReal) (h : Fin 64 → Fin 1024 → EReal) (adj : Fin 1024 → EReal) (i : Fin 1024)
    (f : Fin 64) : EReal :=
  Ideal.div (∑ j, h f j * (weight a₁ a₂ h i j * adj j)) (∑ j, (1 : EReal) * (weight a₁ a₂ h i j * adj j))

/-- The scaled score of real operands. -/
theorem score_real (a : Fin 64 → ℝ) (h : Fin 64 → Fin 1024 → ℝ) (j : Fin 1024) :
    score (fun f => (a f : EReal)) (fun f j => (h f j : EReal)) j
      = (((∑ f, h f j * a f) * (Real.log 2)⁻¹ : ℝ) : EReal) :=
  sum_scaled a (fun f => h f j) (Real.log 2)⁻¹

/-- The bound of real operands is a real number. -/
theorem bound_real (a₁ a₂ : Fin 64 → ℝ) (h : Fin 64 → Fin 1024 → ℝ) (i : Fin 1024) :
    ∃ m : ℝ, bound (fun f => (a₁ f : EReal)) (fun f => (a₂ f : EReal)) (fun f j => (h f j : EReal)) i = (m : EReal) := by
  unfold bound
  simp only [score_real]
  obtain ⟨M, hM⟩ := fold_max_real (fun x : Fin 1 × Fin 1024 => (((∑ f, h f x.2 * a₂ f) * (Real.log 2)⁻¹ : ℝ) : EReal))
    (fun _ => EReal.coe_lt_top _) ⟨(0, 0), EReal.bot_lt_coe _⟩
  rw [hM, ← EReal.coe_add, ← EReal.coe_mul, coe_max]
  exact ⟨_, rfl⟩

/-- For real features and attention weights and an adjacency row of zeros and ones with a one in it, the kernel's entry is
    the attention entry. -/
theorem kernelAttend_real (a₁ a₂ : Fin 64 → ℝ) (h : Fin 64 → Fin 1024 → ℝ) (nb : Fin 1024 → ℝ) (i : Fin 1024) (f : Fin 64)
    (h01 : ∀ j, nb j = 0 ∨ nb j = 1) (hnb : ∃ j, nb j = 1) :
    kernelAttend (fun f => (a₁ f : EReal)) (fun f => (a₂ f : EReal)) (fun f j => (h f j : EReal))
        (fun j => (nb j : EReal)) i f
      = (attend (∑ f, h f i * a₁ f) (fun j => ∑ f, h f j * a₂ f) nb (h f) : EReal) := by
  obtain ⟨m, hm⟩ := bound_real a₁ a₂ h i
  unfold kernelAttend weight
  simp only [hm, score_real, pair_weight]
  exact kernel_row _ _ (fun j => ∑ f, h f j * a₂ f) nb (h f) (Real.exp_pos _) h01 hnb

/-! ## The last step: the exponential linear unit -/

/-- The exponential linear unit over the extended reals: `h` where it is positive and `exp h - 1` elsewhere. -/
def elu (h : EReal) : EReal := if 0 < h then h else Ideal.exp h - 1

/-- The kernel's form, which exponentiates the smaller of `h` and zero. -/
theorem elu_min (h : EReal) : (if 0 < h then h else Ideal.exp (min h 0) - 1) = elu h := by
  unfold elu
  split
  · rfl
  · next hh => rw [min_eq_left (not_lt.mp hh)]

/-- The reference's form, which zeroes a positive `h` before it exponentiates. -/
theorem elu_where (h : EReal) : (if 0 < h then h else 1 * (Ideal.exp (if 0 < h then 0 else h) - 1)) = elu h := by
  unfold elu
  split
  · rfl
  · rw [one_mul]

end Cert.Gat

end
-- ==== Proof.Block.lean ====
/-
  What one grid point of the kernel computes: its output block, entry by entry, as a formula in its input blocks.
-/
module

public import proofs.«01_k».proof.Proof.Gen.KernelIdeal.Frame
public import proofs.«01_k».proof.Proof.Literals
public import proofs.«01_k».proof.Proof.Formula
public import Idealize.ShloMosaic.Lib.Pipeline.ValueKit

@[expose] public section

set_option maxRecDepth 16384

noncomputable section

namespace Cert.KernelIdeal.Block

open Idealize.ShloMosaic Idealize.SL.Sem Cert.KernelIdeal Cert.KernelIdeal.Gen Cert.Gat

/-- The projected features, transposed: feature `f` of node `j` sums the weights against the node's inputs. -/
theorem pay2_apply (w : Vec Ideal S64x128 .f32) (x : Vec Ideal S1x1024x128 .f32) (f : Fin 64) (j : Fin 1024) :
    k0_pay2 w x (ix2 f j) = ∑ k : Fin 128, w (ix2 f k) * x (ix3 0 j k) := by
  pointwise [k0_pay2]

/-- The scores from the second half of the attention vector. -/
theorem pay7_apply (a : Vec Ideal S1x128 .f32) (h : Vec Ideal S64x1024 .f32) (j : Fin 1024) :
    k0_pay7 a h (ix2 0 j)
      = ∑ f : Fin 64, (a (ix2 0 ⟨64 + f.val, by omega⟩) * (((Real.log 2)⁻¹ : ℝ) : EReal)) * h (ix2 f j) := by
  pointwise [k0_pay7, k0_pay6, named_log2e]

/-- The scores from the first half of the attention vector. -/
theorem pay8_apply (a : Vec Ideal S1x128 .f32) (h : Vec Ideal S64x1024 .f32) (j : Fin 1024) :
    k0_pay8 a h (ix2 j 0)
      = ∑ f : Fin 64, (a (ix2 0 ⟨f.val, by omega⟩) * (((Real.log 2)⁻¹ : ℝ) : EReal)) * h (ix2 f j) := by
  pointwise [k0_pay8, k0_pay6, named_log2e]

/-- The row bound: the leaky rectifier of the row's score plus the largest score. -/
theorem pay9_apply (a : Vec Ideal S1x128 .f32) (h g : Vec Ideal S64x1024 .f32) (i : Fin 1024) :
    k0_pay9 a h g (ix2 i 0)
      = max (k0_pay8 a g (ix2 i 0) + Finset.univ.fold max ⊥ fun x : Fin 1 × Fin 1024 => k0_pay7 a h (ix2 0 x.2))
        ((slope : EReal)
          * (k0_pay8 a g (ix2 i 0) + Finset.univ.fold max ⊥ fun x : Fin 1 × Fin 1024 => k0_pay7 a h (ix2 0 x.2))) := by
  pointwise [k0_pay9, lit_slope, lit_bot]

/-- The second store's operand: row zero holds ones. -/
theorem pay5_apply (j : Fin 1024) : k0_pay5 (F := Ideal) (ix2 0 j) = 1 := by
  pointwise [k0_pay5]

/-- The second scratch array when it is read back: the features in rows 0 to 63, and the block that starts with a row of
    ones in rows 64 to 71. -/
def stacked (w : Vec Ideal S64x128 .f32) (x : Vec Ideal S1x1024x128 .f32) : Vec Ideal S72x1024 .bf16 :=
  View.canon (Val := Elt Ideal) (s := S72x1024) (e := .bf16)
    [⟨Rect.unit ![64, 0] ![8, 1024] inb_S72x1024_S8x1024_64_0, k0_pay5 (F := Ideal)⟩,
      ⟨Rect.unit ![0, 0] ![64, 1024] inb_S72x1024_S64x1024_0_0, k0_pay4 w x⟩]

/-- The first 64 rows of the second scratch array are the features. -/
theorem stacked_features (w : Vec Ideal S64x128 .f32) (x : Vec Ideal S1x1024x128 .f32) (f : Fin 64) (j : Fin 1024) :
    stacked w x (ix2 ⟨f.val, by omega⟩ j) = k0_pay2 w x (ix2 f j) := by
  unfold stacked
  rw [View.canon_cons_of_not_mem]
  · have e := View.canon_cons_emb (Val := Elt Ideal) (e := .bf16)
      (Rect.unit (s := S72x1024) ![0, 0] ![64, 1024] inb_S72x1024_S64x1024_0_0) (k0_pay4 w x) [] (ix2 f j)
    have hi : (Rect.unit (s := S72x1024) ![0, 0] ![64, 1024] inb_S72x1024_S64x1024_0_0).emb (ix2 f j)
        = (ix2 ⟨f.val, by omega⟩ j : S72x1024.Idx) := by
      funext a; fin_cases a <;> exact Fin.ext (by simp [Rect.emb, Rect.unit, ix2])
    rw [hi] at e
    rw [e]
    pointwise [k0_pay4]
  · rw [Rect.mem_set_unit]
    intro h
    have h0 := (h 0).1
    have : (64 : ℕ) ≤ f.val := h0
    omega

/-- Row 64 of the second scratch array is all ones. -/
theorem stacked_ones (w : Vec Ideal S64x128 .f32) (x : Vec Ideal S1x1024x128 .f32) (j : Fin 1024) :
    stacked w x (ix2 64 j) = 1 := by
  unfold stacked
  have e := View.canon_cons_emb (Val := Elt Ideal) (e := .bf16)
    (Rect.unit (s := S72x1024) ![64, 0] ![8, 1024] inb_S72x1024_S8x1024_64_0) (k0_pay5 (F := Ideal))
    [⟨Rect.unit ![0, 0] ![64, 1024] inb_S72x1024_S64x1024_0_0, k0_pay4 w x⟩] (ix2 0 j)
  have hi : (Rect.unit (s := S72x1024) ![64, 0] ![8, 1024] inb_S72x1024_S8x1024_64_0).emb (ix2 0 j)
      = (ix2 64 j : S72x1024.Idx) := by
    funext a; fin_cases a <;> exact Fin.ext (by simp [Rect.emb, Rect.unit, ix2])
  rw [hi] at e
  rw [e, pay5_apply]

/-- The batch index, which is 0 or 1, chooses between two values. -/
theorem select_batch (b : Fin 2) (u : Fin 2 → EReal) :
    Scalar.select (Scalar.cmpi .eq (BitVec.ofNat 32 b.val) 0#32) (u 0) (u 1) = u b := by
  fin_cases b <;> rfl

/-- The rows that a grid point scores start at row zero: the grid has one row block. -/
theorem zero_offset : ∀ t : Fin grid0.N, k0_off1 (grid0.coords t) = fun _ => 0 := by decide +kernel

/-! ## The block as a formula -/

/-- The features of a block, transposed: feature `f` of node `j`. -/
def features (w : Vec Ideal S64x128 .f32) (x : Vec Ideal S1x1024x128 .f32) (f : Fin 64) (j : Fin 1024) : EReal :=
  ∑ k : Fin 128, w (ix2 f k) * x (ix3 0 j k)

/-- The first half of the attention vector. -/
def firstHalf (a : Vec Ideal S1x128 .f32) (f : Fin 64) : EReal := a (ix2 0 ⟨f.val, by omega⟩)

/-- The second half of the attention vector. -/
def secondHalf (a : Vec Ideal S1x128 .f32) (f : Fin 64) : EReal := a (ix2 0 ⟨64 + f.val, by omega⟩)

/-- The rectified position term of node `i` and feature `f` in batch `b`. -/
def position (wp : Vec Ideal S3x64 .f32) (pos : Vec Ideal S3x2x1024 .f32) (bp : Vec Ideal S1x64 .f32) (b : Fin 2)
    (f : Fin 64) (i : Fin 1024) : EReal :=
  max (∑ k : Fin 3, wp (ix2 k f) * pos (ix3 k b i) + bp (ix2 0 f)) 0

/-- Entry `(f, i)` of the output block of batch `b`: the exponential linear unit of the row's attention entry plus the
    rectified position term. -/
def entry (b : Fin 2) (x : Vec Ideal S1x1024x128 .f32) (adj : Vec Ideal S1x1024x1024 .f32) (pos : Vec Ideal S3x2x1024 .f32)
    (w : Vec Ideal S64x128 .f32) (a : Vec Ideal S1x128 .f32) (wp : Vec Ideal S3x64 .f32) (bp : Vec Ideal S1x64 .f32)
    (f : Fin 64) (i : Fin 1024) : EReal :=
  elu (kernelAttend (firstHalf a) (secondHalf a) (features w x) (fun j => adj (ix3 0 i j)) i f + position wp pos bp b f i)

section stages

variable (x : Vec Ideal S1x1024x128 .f32) (w : Vec Ideal S64x128 .f32) (a : Vec Ideal S1x128 .f32)

/-- The stored features, named. -/
theorem pay2_features (f : Fin 64) (j : Fin 1024) : k0_pay2 w x (ix2 f j) = features w x f j := pay2_apply w x f j

/-- The second scores, named. -/
theorem pay7_score (j : Fin 1024) : k0_pay7 a (k0_pay2 w x) (ix2 0 j) = score (secondHalf a) (features w x) j := by
  rw [pay7_apply]; simp only [pay2_features]; rfl

/-- The first scores, named. -/
theorem pay8_score (j : Fin 1024) : k0_pay8 a (k0_pay2 w x) (ix2 j 0) = score (firstHalf a) (features w x) j := by
  rw [pay8_apply]; simp only [pay2_features]; rfl

/-- The row bound, named. -/
theorem pay9_bound (i : Fin 1024) :
    k0_pay9 a (k0_pay2 w x) (k0_pay2 w x) (ix2 i 0) = bound (firstHalf a) (secondHalf a) (features w x) i := by
  rw [pay9_apply]; simp only [pay7_score, pay8_score]; rfl

/-- The weight of a pair of nodes, from the four factors that the kernel multiplies. -/
theorem factors_weight (i j : Fin 1024) :
    max (k0_pay13 a (k0_pay2 w x) (k0_pay2 w x) (ix2 i j) * k0_pay14 a (k0_pay2 w x) (ix2 i j))
        (k0_pay10 a (k0_pay2 w x) (k0_pay2 w x) (ix2 i 0) * k0_pay11 a (k0_pay2 w x) (ix2 0 j))
      = weight (firstHalf a) (secondHalf a) (features w x) i j := by
  pointwise [k0_pay10, k0_pay11, k0_pay13, k0_pay14, lit_slope]
  simp only [pay7_score, pay8_score, pay9_bound]
  rfl

end stages

/-- The block that the payloads compose, entry by entry. -/
theorem payload_entry (b : Fin 2) (x : Vec Ideal S1x1024x128 .f32) (adj : Vec Ideal S1x1024x1024 .f32)
    (pos : Vec Ideal S3x2x1024 .f32) (w : Vec Ideal S64x128 .f32) (a : Vec Ideal S1x128 .f32) (wp : Vec Ideal S3x64 .f32)
    (bp : Vec Ideal S1x64 .f32) (f : Fin 64) (i : Fin 1024) :
    k0_pay1
        (k0_pay15 (BitVec.ofNat 32 b.val)
          (k0_pay10 a (k0_pay2 w x) (k0_pay2 w x)) (k0_pay11 a (k0_pay2 w x)) (k0_pay12 adj)
          (k0_pay13 a (k0_pay2 w x) (k0_pay2 w x)) (k0_pay14 a (k0_pay2 w x)) (stacked w x)
          (View.ld pos (Rect.unit ![0, 0, 0] ![3, 1, 1024] inb_S3x2x1024_S3x1x1024_0_0_0))
          (View.ld pos (Rect.unit ![0, 1, 0] ![3, 1, 1024] inb_S3x2x1024_S3x1x1024_0_1_0)) wp bp) (ix3 0 f i)
      = entry b x adj pos w a wp bp f i := by
  unfold entry kernelAttend position
  rw [← elu_min]
  pointwise [k0_pay1, k0_pay15]
  simp only [stacked_features, stacked_ones, factors_weight, pay2_features]
  pointwise [k0_pay12]
  have hsel : ∀ k : Fin 3, Scalar.select (Scalar.cmpi .eq (BitVec.ofNat 32 b.val) 0#32) (pos (ix3 k 0 i)) (pos (ix3 k 1 i))
      = pos (ix3 k b i) := fun k => select_batch b fun b => pos (ix3 k b i)
  simp only [hsel]

variable (m : (ℓ : Loc nD τ sig) → Buf (Elt Ideal) ℓ) (c : Dev nD) (t : Fin grid0.N)

/-- A grid point's output block in terms of the payloads: the first scratch array is read back as stored. -/
theorem outs_eq :
    outsAt0 m c t
      = k0_pay1
          (k0_pay15 (BitVec.ofNat 32 (grid0.coords t 0).val)
            (k0_pay10 (iblk m c 4 t) (k0_pay2 (iblk m c 3 t) (iblk m c 0 t)) (k0_pay2 (iblk m c 3 t) (iblk m c 0 t)))
            (k0_pay11 (iblk m c 4 t) (k0_pay2 (iblk m c 3 t) (iblk m c 0 t)))
            (k0_pay12 (iblk m c 1 t))
            (k0_pay13 (iblk m c 4 t) (k0_pay2 (iblk m c 3 t) (iblk m c 0 t)) (k0_pay2 (iblk m c 3 t) (iblk m c 0 t)))
            (k0_pay14 (iblk m c 4 t) (k0_pay2 (iblk m c 3 t) (iblk m c 0 t)))
            (stacked (iblk m c 3 t) (iblk m c 0 t))
            (View.ld (iblk m c 2 t) (Rect.unit ![0, 0, 0] ![3, 1, 1024] inb_S3x2x1024_S3x1x1024_0_0_0))
            (View.ld (iblk m c 2 t) (Rect.unit ![0, 1, 0] ![3, 1, 1024] inb_S3x2x1024_S3x1x1024_0_1_0))
            (iblk m c 5 t) (iblk m c 6 t)) := by
  have h3 : k0_pay3 (iblk m c 3 t) (iblk m c 0 t) = k0_pay2 (iblk m c 3 t) (iblk m c 0 t) := by
    unfold k0_pay3; exact shapeCast_self _ _
  have hz : k0_off1 (grid0.coords t) = fun _ => 0 := zero_offset t
  unfold outsAt0
  frame_out
  rw [View.ld_unit_zero hz, h3, View.readCov_eq_canon']
  refine congrArg (fun z => k0_pay1 (k0_pay15 _ _ _ _ _ _ z _ _ _ _)) ?_
  exact View.ld_unit_zero (by decide) _ _

/-- Entry `(f, i)` of a grid point's output block. -/
theorem outs_apply (f : Fin 64) (i : Fin 1024) :
    outsAt0 m c t (ix3 0 f i)
      = entry (grid0.coords t 0) (iblk m c 0 t) (iblk m c 1 t) (iblk m c 2 t) (iblk m c 3 t) (iblk m c 4 t)
          (iblk m c 5 t) (iblk m c 6 t) f i := by
  rw [outs_eq]
  exact payload_entry _ _ _ _ _ _ _ _ f i

end Cert.KernelIdeal.Block

end
-- ==== Proof.Array.lean ====
/-
  What the kernel's arrays hold: the operands that the host lays out before the call, each block as a part of an argument,
  the output array after every grid point, and the result after the last transposition.
-/
module

public import proofs.«01_k».proof.Proof.Block

@[expose] public section

set_option maxRecDepth 16384

noncomputable section

namespace Cert.KernelIdeal.Array

open Idealize.ShloMosaic Idealize.SL.Sem Cert.KernelIdeal Cert.KernelIdeal.Gen Cert.KernelIdeal.Block Cert.Gat

variable (m : (ℓ : Loc nD τ sig) → Buf (Elt Ideal) ℓ) (c : Dev nD)

/-! ## The arguments by coordinates -/

/-- The node inputs: batch, node, input feature. -/
def X (b : Fin 2) (j : Fin 1024) (k : Fin 128) : EReal :=
  (m ((c.tc : Thread nD τ).loc main_arg0) : S2x1024x128.Idx → EReal) (ix3 b j k)

/-- The positions: batch, node, coordinate. -/
def Pos (b : Fin 2) (j : Fin 1024) (k : Fin 3) : EReal :=
  (m ((c.tc : Thread nD τ).loc main_arg1) : S2x1024x3.Idx → EReal) (ix3 b j k)

/-- The adjacency: batch, row, column. -/
def Adj (b : Fin 2) (i j : Fin 1024) : EReal :=
  (m ((c.tc : Thread nD τ).loc main_arg2) : S2x1024x1024.Idx → EReal) (ix3 b i j)

/-- The projection weights: input feature, feature. -/
def W (k : Fin 128) (f : Fin 64) : EReal :=
  (m ((c.tc : Thread nD τ).loc main_arg3) : S128x64.Idx → EReal) (ix2 k f)

/-- The attention vector. -/
def A (g : Fin 128) : EReal := (m ((c.tc : Thread nD τ).loc main_arg4) : S128x1.Idx → EReal) (ix2 g 0)

/-- The position weights: feature, coordinate. -/
def Wp (f : Fin 64) (k : Fin 3) : EReal :=
  (m ((c.tc : Thread nD τ).loc main_arg5) : S64x3.Idx → EReal) (ix2 f k)

/-- The position bias. -/
def Bp (f : Fin 64) : EReal := (m ((c.tc : Thread nD τ).loc main_arg6) : S64.Idx → EReal) (ix1 f)

/-! ## What the host lays out before the call -/

/-- The projection weights, transposed. -/
theorem V_w : (V m c main_call0_v0 : S64x128.Idx → EReal)
    = transpose S64x128 [1, 0] (m ((c.tc : Thread nD τ).loc main_arg3) : S128x64.Idx → EReal)
        transposes_S128x64_S64x128_1_0 := by
  unfold V V0 hostOps0
  simp only [List.flatten_cons, List.flatten_nil, List.append_nil, StableHlo.TRef.unary, StableHlo.TRef.reshape,
    StableHlo.TRef.toBuf, StableHlo.TRef.ofBuf, cast_eq]
  after_results_simp <;> rfl

/-- The attention vector, as a row. -/
theorem V_a : (V m c main_call0_v1 : S1x128.Idx → EReal)
    = transpose S1x128 [1, 0] (m ((c.tc : Thread nD τ).loc main_arg4) : S128x1.Idx → EReal)
        transposes_S128x1_S1x128_1_0 := by
  unfold V V0 hostOps0
  simp only [List.flatten_cons, List.flatten_nil, List.append_nil, StableHlo.TRef.unary, StableHlo.TRef.reshape,
    StableHlo.TRef.toBuf, StableHlo.TRef.ofBuf, cast_eq]
  after_results_simp <;> rfl

/-- The position weights, transposed. -/
theorem V_wp : (V m c main_call0_v2 : S3x64.Idx → EReal)
    = transpose S3x64 [1, 0] (m ((c.tc : Thread nD τ).loc main_arg5) : S64x3.Idx → EReal)
        transposes_S64x3_S3x64_1_0 := by
  unfold V V0 hostOps0
  simp only [List.flatten_cons, List.flatten_nil, List.append_nil, StableHlo.TRef.unary, StableHlo.TRef.reshape,
    StableHlo.TRef.toBuf, StableHlo.TRef.ofBuf, cast_eq]
  after_results_simp <;> rfl

/-- The positions with the coordinate axis first. -/
theorem V_pos : (V m c main_call0_v3 : S3x2x1024.Idx → EReal)
    = transpose S3x2x1024 [2, 0, 1] (m ((c.tc : Thread nD τ).loc main_arg1) : S2x1024x3.Idx → EReal)
        transposes_S2x1024x3_S3x2x1024_2_0_1 := by
  unfold V V0 hostOps0
  simp only [List.flatten_cons, List.flatten_nil, List.append_nil, StableHlo.TRef.unary, StableHlo.TRef.reshape,
    StableHlo.TRef.toBuf, StableHlo.TRef.ofBuf, cast_eq]
  after_results_simp <;> rfl

/-- The position bias, as a row. -/
theorem V_bp : (V m c main_call0_v4 : S1x64.Idx → EReal)
    = shapeCast S1x64 (m ((c.tc : Thread nD τ).loc main_arg6) : S64.Idx → EReal) shapeCasts_S64_S1x64 := by
  unfold V V0 hostOps0
  simp only [List.flatten_cons, List.flatten_nil, List.append_nil, StableHlo.TRef.unary, StableHlo.TRef.reshape,
    StableHlo.TRef.toBuf, StableHlo.TRef.ofBuf, cast_eq]
  after_results_simp <;> rfl

/-! ## The blocks of a grid point -/

/-- Where each window's block lies at a grid point: the batch's slab for the node inputs, the adjacency and the output,
    the whole array for the others. -/
theorem index_facts : ∀ t : Fin grid0.N,
    win0_0.index t = ![(grid0.coords t 0).val, 0, 0] ∧ win0_1.index t = ![(grid0.coords t 0).val, 0, 0]
    ∧ win0_2.index t = ![0, 0, 0] ∧ win0_3.index t = ![0, 0] ∧ win0_4.index t = ![0, 0] ∧ win0_5.index t = ![0, 0]
    ∧ win0_6.index t = ![0, 0] ∧ win0_7.index t = ![(grid0.coords t 0).val, 0, 0] := by decide +kernel

variable (t : Fin grid0.N)

/-- The first block is the batch's node inputs. -/
theorem blk_x (j : Fin 1024) (k : Fin 128) :
    (iblk m c 0 t : Vec Ideal S1x1024x128 .f32) (ix3 0 j k) = X m c (grid0.coords t 0) j k := by
  unfold X
  blk_ext [iblk, V, index_facts t]

/-- The second block is the batch's adjacency. -/
theorem blk_adj (i j : Fin 1024) :
    (iblk m c 1 t : Vec Ideal S1x1024x1024 .f32) (ix3 0 i j) = Adj m c (grid0.coords t 0) i j := by
  unfold Adj
  blk_ext [iblk, V, index_facts t]

/-- The third block is every position, the coordinate axis first. -/
theorem blk_pos (k : Fin 3) (b : Fin 2) (i : Fin 1024) :
    (iblk m c 2 t : Vec Ideal S3x2x1024 .f32) (ix3 k b i) = Pos m c b i k := by
  have h : (iblk m c 2 t : Vec Ideal S3x2x1024 .f32) (ix3 k b i)
      = (V m c main_call0_v3 : S3x2x1024.Idx → EReal) (ix3 k b i) := by
    blk_ext [iblk, index_facts t]
  rw [h, V_pos]; unfold Pos; pointwise

/-- The fourth block is the projection weights, transposed. -/
theorem blk_w (f : Fin 64) (k : Fin 128) : (iblk m c 3 t : Vec Ideal S64x128 .f32) (ix2 f k) = W m c k f := by
  have h : (iblk m c 3 t : Vec Ideal S64x128 .f32) (ix2 f k) = (V m c main_call0_v0 : S64x128.Idx → EReal) (ix2 f k) := by
    blk_ext [iblk, index_facts t]
  rw [h, V_w]; unfold W; pointwise

/-- The fifth block is the attention vector. -/
theorem blk_a (g : Fin 128) : (iblk m c 4 t : Vec Ideal S1x128 .f32) (ix2 0 g) = A m c g := by
  have h : (iblk m c 4 t : Vec Ideal S1x128 .f32) (ix2 0 g) = (V m c main_call0_v1 : S1x128.Idx → EReal) (ix2 0 g) := by
    blk_ext [iblk, index_facts t]
  rw [h, V_a]; unfold A; pointwise

/-- The sixth block is the position weights, transposed. -/
theorem blk_wp (k : Fin 3) (f : Fin 64) : (iblk m c 5 t : Vec Ideal S3x64 .f32) (ix2 k f) = Wp m c f k := by
  have h : (iblk m c 5 t : Vec Ideal S3x64 .f32) (ix2 k f) = (V m c main_call0_v2 : S3x64.Idx → EReal) (ix2 k f) := by
    blk_ext [iblk, index_facts t]
  rw [h, V_wp]; unfold Wp; pointwise

/-- The seventh block is the position bias. -/
theorem blk_bp (f : Fin 64) : (iblk m c 6 t : Vec Ideal S1x64 .f32) (ix2 0 f) = Bp m c f := by
  have h : (iblk m c 6 t : Vec Ideal S1x64 .f32) (ix2 0 f) = (V m c main_call0_v4 : S1x64.Idx → EReal) (ix2 0 f) := by
    blk_ext [iblk, index_facts t]
  rw [h, V_bp]; unfold Bp; pointwise

/-! ## The output -/

/-- The kernel's entry for batch `b`, node `i` and feature `f`, in terms of the arguments. -/
def result (b : Fin 2) (i : Fin 1024) (f : Fin 64) : EReal :=
  elu (kernelAttend (fun g => A m c ⟨g.val, by omega⟩) (fun g => A m c ⟨64 + g.val, by omega⟩)
      (fun g j => ∑ k : Fin 128, W m c k g * X m c b j k) (fun j => Adj m c b i j) i f
    + max (∑ k : Fin 3, Wp m c f k * Pos m c b i k + Bp m c f) 0)

/-- A grid point's output block holds the entries of its batch. -/
theorem outs_result (f : Fin 64) (i : Fin 1024) :
    outsAt0 m c t (ix3 0 f i) = result m c (grid0.coords t 0) i f := by
  rw [outs_apply]
  unfold entry result position firstHalf secondHalf features
  have hpos : ∀ k : Fin 3, (iblk m c 2 t : Vec Ideal S3x2x1024 .f32) (ix3 k (grid0.coords t 0) i)
      = Pos m c (grid0.coords t 0) i k := fun k => blk_pos m c t k (grid0.coords t 0) i
  simp only [blk_x, blk_adj, blk_w, blk_a, blk_wp, blk_bp]
  refine congrArg elu (congrArg (_ + ·) (congrArg (fun p => max (p + Bp m c f) 0) ?_))
  exact Finset.sum_congr rfl fun k _ => congrArg (Wp m c f k * ·) (hpos k)

/-- The output array after the run: feature before node. -/
theorem arr_out :
    (dats m 0 c).arrAt 7 (cfgs 0).N = fun y : S2x64x1024.Idx => result m c (y 0) (y 2) (y 1) := by
  refine (dats m 0 c).arrAt_eq_of_covers 7 _ (by decide +kernel) fun t hf y => ?_
  blk_simp
  rw [after0_7]
  idx_vars y
  have hy : y0 = (0 : Fin 1) := Subsingleton.elim _ _
  subst hy
  rw [outs_result]
  have e : ((View.whole main_call0_v5).slice (win0_7.rect t)).emb (ix3 0 y1 y2) = ix3 (grid0.coords t 0) y1 y2 := by
    blk_ext [index_facts t]
  rw [e]; rfl

/-- The result of the program after the last transposition: node before feature. -/
theorem tail_out :
    Pipeline.afterTail₀ cfgs (dats m) 0 (V0 m) [hostOps1] c main_v0
      = fun y : S2x1024x64.Idx => result m c (y 0) (y 1) (y 2) := by
  have h : Pipeline.withArrays (cfgs 0).spec c (V0 m c) (fun w => (dats m 0 c).arrAt w (cfgs 0).N)
      (Proc.tc.devRef main_call0_v5) = (dats m 0 c).arrAt 7 (cfgs 0).N :=
    Pipeline.withArrays_arr (cfgs 0).spec launch0.win.arr_inj c (V0 m c) (fun w => (dats m 0 c).arrAt w (cfgs 0).N) 7
  unfold Pipeline.afterTail₀ hostOps1
  simp only [List.flatten_cons, List.flatten_nil, List.append_nil, StableHlo.TRef.unary, StableHlo.TRef.toBuf,
    StableHlo.TRef.ofBuf, cast_eq]
  after_results_simp
  rw [h, arr_out]
  funext y
  idx_vars y
  pointwise

/-- The kernel's run: the result array ends at the entries above and the arguments end unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0) = (fun y : S2x1024x64.Idx => result m c (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).2 main_v0 (by decide)).trans (tail_out m c), h.2 c⟩)
    (θ_run_and (run_main m ρ) (unchanged m ρ))

end Cert.KernelIdeal.Array

end
-- ==== Proof.RefValue.lean ====
/-
  What the reference computes, entry by entry: its features, its scores, the masked row, the row maximum, the softmax
  weighted mean, and the final activation.
-/
module

public import proofs.«01_k».proof.Proof.Formula
public import proofs.«01_k».proof.Proof.Literals
public import proofs.«01_k».proof.Proof.Gen.ReferenceIdeal.Read
public import Idealize.ShloMosaic.Lib.Pointwise

@[expose] public section

set_option maxRecDepth 16384

noncomputable section

namespace Cert.ReferenceIdeal.Entry

open Idealize.ShloMosaic Cert.ReferenceIdeal Cert.ReferenceIdeal.Gen Cert.ReferenceIdeal.Read Cert.Gat

variable (x : Vec Ideal S2x1024x128 .f32) (pos : Vec Ideal S2x1024x3 .f32) (adj : Vec Ideal S2x1024x1024 .f32)
  (w : Vec Ideal S128x64 .f32) (a : Vec Ideal S128x1 .f32) (wp : Vec Ideal S64x3 .f32) (bp : Vec Ideal S64 .f32)

/-- Feature `f` of node `j` in batch `b`. -/
def features (b : Fin 2) (j : Fin 1024) (f : Fin 64) : EReal := ∑ k : Fin 128, x (ix3 b j k) * w (ix2 k f)

/-- The score a node gets as the receiver: its features against the first half of the attention vector. -/
def receive (b : Fin 2) (i : Fin 1024) : EReal :=
  ∑ f : Fin 64, features x w b i f * a (ix2 ⟨f.val, by omega⟩ 0)

/-- The score a node gets as the sender: its features against the second half of the attention vector. -/
def send (b : Fin 2) (j : Fin 1024) : EReal :=
  ∑ f : Fin 64, features x w b j f * a (ix2 ⟨64 + f.val, by omega⟩ 0)

/-- The projection holds the features. -/
theorem features_at (b : Fin 2) (j : Fin 1024) (f : Fin 64) : val_main_v0 x w (ix3 b j f) = features x w b j f := by
  pointwise [val_main_v0, features]

/-- The product with the first half of the attention vector holds the receivers' scores. -/
theorem receive_at (b : Fin 2) (i : Fin 1024) : val_main_v3 x w a (ix2 b i) = receive x w a b i := by
  pointwise [val_main_v3, val_main_v2, val_main_v1, receive, features_at]

/-- The product with the second half of the attention vector holds the senders' scores. -/
theorem send_at (b : Fin 2) (i : Fin 1024) : val_main_v6 x w a (ix2 b i) = send x w a b i := by
  pointwise [val_main_v6, val_main_v5, val_main_v4, send, features_at]

/-- The scores of a pair before the rectifier: the receiver's plus the sender's. -/
theorem pre_at (b : Fin 2) (i j : Fin 1024) :
    val_main_v11 x w a (ix3 b i j) = receive x w a b i + send x w a b j := by
  pointwise [val_main_v11, val_main_v10, val_main_v9, val_main_v8, val_main_v7, receive_at, send_at]

/-- The reference's leaky rectifier over the extended reals, by comparison with zero. -/
def rectify (t : EReal) : EReal := if 0 ≤ t then t else (slope : EReal) * t

/-- The masked score of the pair `(i, j)`: the rectified sum of the two scores where the adjacency is positive, `⊥` elsewhere. -/
def maskedScore (b : Fin 2) (i j : Fin 1024) : EReal :=
  if 0 < adj (ix3 b i j) then rectify (receive x w a b i + send x w a b j) else ⊥

/-- The largest masked score of row `i`. -/
def rowMax (b : Fin 2) (i : Fin 1024) : EReal := Finset.univ.fold max ⊥ (maskedScore x adj w a b i)

/-- The attention entry: the softmax of the masked scores against the features. -/
def attention (b : Fin 2) (i : Fin 1024) (f : Fin 64) : EReal :=
  ∑ j : Fin 1024, Ideal.div (Ideal.exp (maskedScore x adj w a b i j - rowMax x adj w a b i))
      (∑ k : Fin 1024, Ideal.exp (maskedScore x adj w a b i k - rowMax x adj w a b i)) * features x w b j f

/-- The position term: the rectified projection of the positions. -/
def position (b : Fin 2) (i : Fin 1024) (f : Fin 64) : EReal :=
  max (∑ k : Fin 3, pos (ix3 b i k) * wp (ix2 f k) + bp (ix1 f)) 0

/-- The scores of a pair after the rectifier. -/
theorem rectified_at (b : Fin 2) (i j : Fin 1024) :
    val_main_v12 x w a (ix3 b i j) = rectify (receive x w a b i + send x w a b j) := by
  pointwise [val_main_v12, val_main_call0_v4, val_main_call0_v3, val_main_call0_v2, val_main_call0_v1, val_main_call0_v0,
    val_main_call0_cst, val_main_cst, pre_at, rectify, lit_slope, id]

/-- The scores of a pair after the mask. -/
theorem masked_at (b : Fin 2) (i j : Fin 1024) :
    val_main_v18 x adj w a (ix3 b i j) = maskedScore x adj w a b i j := by
  pointwise [val_main_v18, val_main_v17, val_main_v16, val_main_v15, val_main_v14, val_main_v13, val_main_cst_0,
    val_main_cst_1, val_main_cst_2, rectified_at, maskedScore, lit_bot]

/-- The maximum along the last axis of a row, from minus infinity. -/
theorem reduce_at (v : Vec Ideal S2x1024x1024 .f32) (b : Fin 2) (i : Fin 1024) :
    Host.reduce (FloatOps.maximumf (F := Ideal) (φ := .f32)) v (val_main_cst_3 (F := Ideal)) reducesTo_S2x1024x1024_S2x1024_d2 h_S_
        (ix2 b i) = Finset.univ.fold max ⊥ fun j : Fin 1024 => v (ix3 b i j) := by
  pointwise [val_main_cst_3, lit_bot]

/-- The softmax's row maximum. -/
theorem rowMax_at (b : Fin 2) (i : Fin 1024) : val_main_v21 x adj w a (ix2 b i) = rowMax x adj w a b i := by
  have h : val_main_v19 x adj w a (ix2 b i) = rowMax x adj w a b i := by
    unfold val_main_v19 rowMax
    rw [reduce_at]
    simp only [masked_at]
  have hbot : val_main_v20 (F := Ideal) (ix2 b i) = (⊥ : EReal) := by
    pointwise [val_main_v20, val_main_cst_4, lit_bot]
  unfold val_main_v21
  rw [maximumf_apply, h, hbot]
  exact max_eq_right bot_le

/-- The exponentials of the shifted masked scores. -/
theorem exp_at (b : Fin 2) (i j : Fin 1024) :
    val_main_v25 x adj w a (ix3 b i j) = Ideal.exp (maskedScore x adj w a b i j - rowMax x adj w a b i) := by
  pointwise [val_main_v25, val_main_v24, val_main_v23, val_main_v22, masked_at, rowMax_at]

/-- The product of the softmax with the features holds the attention entries. -/
theorem attention_at (b : Fin 2) (i : Fin 1024) (f : Fin 64) :
    val_main_v30 x adj w a (ix3 b i f) = attention x adj w a b i f := by
  pointwise [val_main_v30, val_main_v29, val_main_v28, val_main_v27, val_main_v26, val_main_cst_5, exp_at, features_at,
    attention]

/-- The rectified projection of the positions holds the position terms. -/
theorem position_at (b : Fin 2) (i : Fin 1024) (f : Fin 64) :
    val_main_v36 pos wp bp (ix3 b i f) = position pos wp bp b i f := by
  pointwise [val_main_v36, val_main_v35, val_main_v34, val_main_v33, val_main_v32, val_main_v31, val_main_call2_v0,
    val_main_call2_cst, position]

/-- The reference's result, entry by entry. -/
theorem result_at (b : Fin 2) (i : Fin 1024) (f : Fin 64) :
    val_main_v38 x pos adj w a wp bp (ix3 b i f)
      = elu (attention x adj w a b i f + position pos wp bp b i f) := by
  rw [← elu_where]
  pointwise [val_main_v38, val_main_call3_v7, val_main_call3_v6, val_main_call3_v5, val_main_call3_v4, val_main_call3_v3,
    val_main_call3_v2, val_main_call3_v1, val_main_call3_v0, val_main_call3_cst, val_main_call3_cst_0,
    val_main_call3_cst_1, val_main_call3_cst_2, val_main_call3_call0_v0, val_main_call3_call0_v1, val_main_v37,
    attention_at, position_at, id]

end Cert.ReferenceIdeal.Entry

end
-- ==== Proof.Tame.lean ====
/-
  What the precondition says: the node inputs, the projection weights and the attention vector are real numbers, the
  adjacency holds zeros and ones, and every row of it holds a one.
-/
module

public import proofs.«01_k».proof.Pre_tame
public import proofs.«01_k».proof.Proof.Literals
public import Idealize.ShloMosaic.Lib.Pointwise

@[expose] public section

set_option maxRecDepth 16384

noncomputable section

namespace Cert.Tame

open Idealize.ShloMosaic Cert.Pre_tame Cert.Gat

/-- The shapes that the precondition's operations need. -/
instance facts : Cert.Pre_tame.Facts := by constructor <;> decide

/-- An extended real whose absolute value is below infinity is a real number. -/
theorem real_of_abs_lt {v : EReal} (h : max v (-v) < ⊤) : ∃ r : ℝ, v = (r : EReal) := by
  have h1 : v ≠ ⊤ := fun e => by simp [e] at h
  have h2 : v ≠ ⊥ := fun e => by simp [e] at h
  exact ⟨v.toReal, (EReal.coe_toReal h1 h2).symm⟩

/-- An array whose absolute values all compare below infinity holds real numbers. -/
theorem real_of_finite {s : Shape} (v : FVec Ideal s .f32) (hb : S_.BroadcastsInDim s (![] : Fin 0 → Fin s.rank))
    (h : cmpf .olt (Host.absf v) (broadcastInDim s ![] hb (constant S_ .f32 0x7F800000#32)) = fun _ => 1#1) (i : s.Idx) :
    ∃ r : ℝ, v i = (r : EReal) := by
  have e : BitVec.ofBool (decide (max (v i) (-v i) < Ideal.ofBits .f32 0x7F800000#32)) = 1#1 := congrFun h i
  rw [lit_top] at e
  refine real_of_abs_lt ?_
  by_contra hn
  rw [decide_eq_false hn] at e
  exact absurd e (by decide)

/-- An array that compares equal to zero or to one at every index holds zeros and ones. -/
theorem zero_or_one {s : Shape} (v : FVec Ideal s .f32) (hb : S_.BroadcastsInDim s (![] : Fin 0 → Fin s.rank))
    (h : ori (cmpf .oeq v (broadcastInDim s ![] hb (constant S_ .f32 0x00000000#32)))
      (cmpf .oeq v (broadcastInDim s ![] hb (constant S_ .f32 0x3F800000#32))) = fun _ => 1#1) (i : s.Idx) :
    v i = 0 ∨ v i = 1 := by
  have e : BitVec.ofBool (decide (v i = Ideal.ofBits .f32 0x00000000#32))
      ||| BitVec.ofBool (decide (v i = Ideal.ofBits .f32 0x3F800000#32)) = 1#1 := congrFun h i
  by_contra hn
  rw [not_or] at hn
  rw [lit_zero, lit_one, decide_eq_false hn.1, decide_eq_false hn.2] at e
  exact absurd e (by decide)

/-- An array that compares equal to one at every index holds ones. -/
theorem eq_one_of_compare {s : Shape} (v : FVec Ideal s .f32) (hb : S_.BroadcastsInDim s (![] : Fin 0 → Fin s.rank))
    (h : cmpf .oeq v (broadcastInDim s ![] hb (constant S_ .f32 0x3F800000#32)) = fun _ => 1#1) (i : s.Idx) : v i = 1 := by
  have e : BitVec.ofBool (decide (v i = Ideal.ofBits .f32 0x3F800000#32)) = 1#1 := congrFun h i
  by_contra hn
  rw [lit_one, decide_eq_false hn] at e
  exact absurd e (by decide)

/-- The maximum along the last axis of a row, from minus infinity. -/
theorem reduce_at (v : FVec Ideal S2x1024x1024 .f32) (b : Fin 2) (i : Fin 1024) :
    Host.reduce (FloatOps.maximumf (F := Ideal) (φ := .f32)) v (constant S_ .f32 0xFF800000#32)
        Facts.reducesTo_S2x1024x1024_S2x1024_d2 Facts.h_S_ (ix2 b i)
      = Finset.univ.fold max ⊥ fun j : Fin 1024 => v (ix3 b i j) := by
  pointwise [lit_bot]

/-- If the maximum of every row compares equal to one, every row holds a one. -/
theorem row_has_one (v : FVec Ideal S2x1024x1024 .f32)
    (h : cmpf .oeq (Host.reduce (FloatOps.maximumf (F := Ideal) (φ := .f32)) v (constant S_ .f32 0xFF800000#32)
        Facts.reducesTo_S2x1024x1024_S2x1024_d2 Facts.h_S_)
      (broadcastInDim S2x1024 ![] Facts.bcast_S_S2x1024 (constant S_ .f32 0x3F800000#32)) = fun _ => 1#1)
    (b : Fin 2) (i : Fin 1024) : ∃ j, v (ix3 b i j) = 1 := by
  have hm : (Finset.univ.fold max ⊥ fun j : Fin 1024 => v (ix3 b i j)) = 1 :=
    (reduce_at v b i).symm.trans (eq_one_of_compare _ _ h (ix2 b i))
  rcases (Finset.le_fold_max _).mp hm.ge with h1 | ⟨j, _, hj⟩
  · exact absurd h1 (not_le.mpr (EReal.bot_lt_coe 1))
  · exact ⟨j, le_antisymm (((Finset.fold_max_le _).mp hm.le).2 j (Finset.mem_univ j)) hj⟩

/-- What the precondition says of the arguments' entries. -/
structure Entries (x : Fin 2 → Fin 1024 → Fin 128 → EReal) (adj : Fin 2 → Fin 1024 → Fin 1024 → EReal)
    (w : Fin 128 → Fin 64 → EReal) (a : Fin 128 → EReal) : Prop where
  /-- The node inputs are real numbers. -/
  x_real : ∀ b j k, ∃ r : ℝ, x b j k = (r : EReal)
  /-- The projection weights are real numbers. -/
  w_real : ∀ k f, ∃ r : ℝ, w k f = (r : EReal)
  /-- The attention vector is real. -/
  a_real : ∀ g, ∃ r : ℝ, a g = (r : EReal)
  /-- The adjacency holds zeros and ones. -/
  adj_bit : ∀ b i j, adj b i j = 0 ∨ adj b i j = 1
  /-- Every row of the adjacency holds a one. -/
  adj_row : ∀ b i, ∃ j, adj b i j = 1

/-- The precondition's five arrays of truth values, all true, as statements about entries. -/
theorem entries (x : FVec Ideal S2x1024x128 .f32) (pos : FVec Ideal S2x1024x3 .f32) (adj : FVec Ideal S2x1024x1024 .f32)
    (w : FVec Ideal S128x64 .f32) (a : FVec Ideal S128x1 .f32) (wp : FVec Ideal S64x3 .f32) (bp : FVec Ideal S64 .f32)
    (h : (fn x pos adj w a wp bp).1 = (fun _ => 1#1) ∧ (fn x pos adj w a wp bp).2.1 = (fun _ => 1#1)
      ∧ (fn x pos adj w a wp bp).2.2.1 = (fun _ => 1#1) ∧ (fn x pos adj w a wp bp).2.2.2.1 = (fun _ => 1#1)
      ∧ (fn x pos adj w a wp bp).2.2.2.2 = (fun _ => 1#1)) :
    Entries (fun b j k => x (ix3 b j k)) (fun b i j => adj (ix3 b i j)) (fun k f => w (ix2 k f)) (fun g => a (ix2 g 0)) where
  x_real b j k := real_of_finite x Facts.bcast_S_S2x1024x128 h.1 _
  w_real k f := real_of_finite w Facts.bcast_S_S128x64 h.2.1 _
  a_real g := real_of_finite a Facts.bcast_S_S128x1 h.2.2.1 _
  adj_bit b i j := zero_or_one adj Facts.bcast_S_S2x1024x1024 h.2.2.2.1 _
  adj_row b i := row_has_one adj h.2.2.2.2 b i

end Cert.Tame

end
-- ==== Proof.Equation.lean ====
/-
  The equation: under the precondition the kernel's entry is the reference's entry.
-/
module

public import proofs.«01_k».proof.Proof.RefValue
public import proofs.«01_k».proof.Proof.Tame

@[expose] public section

set_option maxRecDepth 16384

noncomputable section

namespace Cert.Gat

open Idealize.ShloMosaic Cert.ReferenceIdeal Cert.ReferenceIdeal.Entry

/-- The reference's comparison form of the leaky rectifier agrees with the maximum form on reals. -/
theorem rectify_real (t : ℝ) : rectify (t : EReal) = ((leaky t : ℝ) : EReal) := by
  unfold rectify
  by_cases h : 0 ≤ t
  · rw [if_pos (EReal.coe_nonneg.mpr h), leaky_of_nonneg h]
  · rw [if_neg (fun h' => h (EReal.coe_nonneg.mp h')), leaky_of_neg (not_le.mp h), EReal.coe_mul]

/-- Under the precondition the kernel's attention entry is the reference's. -/
theorem attention_eq (x : Vec Ideal S2x1024x128 .f32) (adj : Vec Ideal S2x1024x1024 .f32) (w : Vec Ideal S128x64 .f32)
    (a : Vec Ideal S128x1 .f32)
    (h : Tame.Entries (fun b j k => x (ix3 b j k)) (fun b i j => adj (ix3 b i j)) (fun k f => w (ix2 k f))
      (fun g => a (ix2 g 0)))
    (b : Fin 2) (i : Fin 1024) (f : Fin 64) :
    kernelAttend (fun g => a (ix2 ⟨g.val, by omega⟩ 0)) (fun g => a (ix2 ⟨64 + g.val, by omega⟩ 0))
        (fun g j => ∑ k : Fin 128, w (ix2 k g) * x (ix3 b j k)) (fun j => adj (ix3 b i j)) i f
      = attention x adj w a b i f := by
  obtain ⟨hx, hw, ha, hbit, hrow⟩ := h
  choose xr hx using hx
  choose wr hw using hw
  choose ar ha using ha
  set H : Fin 64 → Fin 1024 → ℝ := fun g j => ∑ k, wr k g * xr b j k with hH
  set nb : Fin 1024 → ℝ := fun j => if adj (ix3 b i j) = 1 then 1 else 0 with hnb
  have h01 : ∀ j, nb j = 0 ∨ nb j = 1 := fun j => by simp only [hnb]; split <;> simp
  have hone : ∃ j, nb j = 1 := (hrow b i).imp fun j hj => if_pos hj
  have hadj : ∀ j, adj (ix3 b i j) = (nb j : EReal) := fun j => by
    simp only [hnb]
    rcases hbit b i j with e | e
    · rw [e, if_neg zero_ne_one, EReal.coe_zero]
    · rw [e, if_pos rfl, EReal.coe_one]
  -- the features and the scores of both programs, as reals
  have hK : ∀ g j, ∑ k : Fin 128, w (ix2 k g) * x (ix3 b j k) = ((H g j : ℝ) : EReal) := fun g j => by
    simp only [hx, hw, ← EReal.coe_mul, coe_sum, hH]
  have hF : ∀ j g, features x w b j g = ((H g j : ℝ) : EReal) := fun j g => by
    rw [← hK]
    exact Finset.sum_congr rfl fun k _ => mul_comm _ _
  set s : ℝ := ∑ g : Fin 64, H g i * ar ⟨g.val, by omega⟩ with hs
  set t : Fin 1024 → ℝ := fun j => ∑ g : Fin 64, H g j * ar ⟨64 + g.val, by omega⟩ with ht
  have hr : receive x w a b i = (s : EReal) := by
    unfold receive
    simp only [hF, ha, ← EReal.coe_mul, coe_sum, hs]
  have hsend : ∀ j, send x w a b j = (t j : EReal) := fun j => by
    unfold send
    simp only [hF, ha, ← EReal.coe_mul, coe_sum, ht]
  have hmask : maskedScore x adj w a b i = masked s t nb := funext fun j => by
    unfold maskedScore masked
    rw [hr, hsend, ← EReal.coe_add, rectify_real, hadj]
    rcases h01 j with e | e
    · rw [e, if_neg (by simp), if_neg zero_ne_one]
    · rw [e, if_pos (by simp), if_pos rfl]
  obtain ⟨M, hM⟩ := masked_max s t nb hone
  have hmax : rowMax x adj w a b i = (M : EReal) := by
    unfold rowMax
    rw [hmask, hM]
  unfold attention
  rw [hmask, hmax]
  simp only [hF, hK, ha, hadj]
  exact (kernelAttend_real _ _ H nb i f h01 hone).trans (reference_row s M t nb (H f) h01 hone).symm

/-- The position terms of the two programs differ only in the order of the factors. -/
theorem position_eq (pos : Vec Ideal S2x1024x3 .f32) (wp : Vec Ideal S64x3 .f32) (bp : Vec Ideal S64 .f32) (b : Fin 2)
    (i : Fin 1024) (f : Fin 64) :
    max (∑ k : Fin 3, wp (ix2 f k) * pos (ix3 b i k) + bp (ix1 f)) 0 = position pos wp bp b i f := by
  unfold position
  exact congrArg (fun p => max (p + bp (ix1 f)) 0) (Finset.sum_congr rfl fun k _ => mul_comm _ _)

end Cert.Gat

end
-- ==== Proof.lean ====
/-
  The proof of `Cert.Claim`. The frames come from the generated modules; the value claim puts together what the kernel's
  result array holds (`Proof.Array`), what the reference computes (`Proof.RefValue`) and why the two are equal under the
  precondition (`Proof.Equation`).
-/
module

public import proofs.«01_k».proof.Defs
public import proofs.«01_k».proof.Proof.Gen.Kernel
public import proofs.«01_k».proof.Proof.Gen.Kernel.Frame
public import proofs.«01_k».proof.Proof.Gen.Reference
public import proofs.«01_k».proof.Proof.Gen.ReferenceIdeal.Run
public import proofs.«01_k».proof.Proof.Gen.Reference.Run
public import proofs.«01_k».proof.Proof.Gen.ReferenceIdeal.Read
public import proofs.«01_k».proof.Proof.Array
public import proofs.«01_k».proof.Proof.RefValue
public import proofs.«01_k».proof.Proof.Equation

@[expose] public section

set_option maxRecDepth 16384

noncomputable section

namespace Cert.Proof

open Idealize.ShloMosaic Idealize.SL.Sem

/-- The reference as printed terminates, leaves its arguments and ends with every semaphore at zero. -/
theorem frame_reference : Cert.quiescent_Reference (hReference := Cert.Reference.Gen.facts) := fun m g _ =>
  (θ_run _ _ _).mono (fun r h => ⟨fun c => (h c).2, Idealize.ShloMosaic.sem_eq_zero_of_no_sems (by decide) r.2⟩)
    (Cert.Reference.Value.run m g)

/-- So does the reference over the extended reals. -/
theorem frame_referenceIdeal : Cert.quiescent_ReferenceIdeal (hReferenceIdeal := Cert.ReferenceIdeal.Gen.facts) :=
  fun m g _ =>
  (θ_run _ _ _).mono (fun r h => ⟨fun c => (h c).2, Idealize.ShloMosaic.sem_eq_zero_of_no_sems (by decide) r.2⟩)
    (Cert.ReferenceIdeal.Value.run m g)

open Cert.KernelIdeal in
/-- Where the precondition holds, the kernel's entry is the entry of the reference's result on the same arguments. -/
theorem entry_eq (m : (ℓ : Loc nD τ sig) → Buf (Elt Ideal) ℓ) (c : Dev nD)
    (h : Cert.Tame.Entries (Array.X m c) (Array.Adj m c) (Array.W m c) (Array.A m c)) (b : Fin 2) (i : Fin 1024)
    (f : Fin 64) :
    Array.result m c b i f
      = Cert.ReferenceIdeal.Read.val_main_v38 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) (ix3 b i f) := by
  rw [Cert.ReferenceIdeal.Entry.result_at]
  exact congrArg Cert.Gat.elu (congrArg₂ (· + ·)
    (Cert.Gat.attention_eq (m ((c.tc : Thread nD τ).loc main_arg0)) (m ((c.tc : Thread nD τ).loc main_arg2))
      (m ((c.tc : Thread nD τ).loc main_arg3)) (m ((c.tc : Thread nD τ).loc main_arg4)) h b i f)
    (Cert.Gat.position_eq (m ((c.tc : Thread nD τ).loc main_arg1)) (m ((c.tc : Thread nD τ).loc main_arg5))
      (m ((c.tc : Thread nD τ).loc main_arg6)) b i f))

/-- Over the extended reals, under the precondition, the kernel and the reference end with the same result. -/
theorem equal_results : Cert.algebraic_KernelIdeal_ReferenceIdeal_pre_tame (hKernelIdeal := Cert.KernelIdeal.Gen.facts)
    (hReferenceIdeal := Cert.ReferenceIdeal.Gen.facts) (hPre_tame := Cert.Tame.facts) := by
  intro m g m' g' hpre hargs
  refine ⟨fun c y => Cert.KernelIdeal.Array.result m c (y 0) (y 1) (y 2), Cert.KernelIdeal.Array.run m g, ?_⟩
  refine (θ_run _ _ _).mono (fun r h c => ⟨(h c).1.trans ?_, (h c).2⟩) (Cert.ReferenceIdeal.Value.run m' g')
  obtain ⟨h0, h1, h2, h3, h4, h5, h6⟩ := hargs c
  rw [Cert.ReferenceIdeal.Read.val_main_v38_eq, h0, h1, h2, h3, h4, h5, h6]
  funext y
  idx_vars y
  exact (entry_eq m c (Cert.Tame.entries _ _ _ _ _ _ _ (hpre c)) _ _ _).symm

/-- Every claim of the certificate. -/
theorem claim : Cert.Claim :=
  ⟨Cert.Kernel.Gen.facts, Cert.KernelIdeal.Gen.facts, Cert.ReferenceIdeal.Gen.facts, Cert.Reference.Gen.facts,
    Cert.Tame.facts,
    fun m g _ => Cert.Kernel.Gen.frame m g,
    fun m g _ => Cert.KernelIdeal.Gen.frame m g,
    fun m g _ => Cert.KernelIdeal.Gen.frame m g,
    frame_referenceIdeal,
    fun m g _ => frame_referenceIdeal m g trivial,
    frame_reference,
    IdealRules.named_const.statement Cert.KernelIdeal.κ "log2e" .f32 0x3FB8AA3B#32 (((Real.log 2)⁻¹ : ℝ) : EReal) rfl,
    trivial,
    equal_results⟩

end Cert.Proof

end
